-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ancestors_name_rows [hPre_ancestors_name_rows : Cert.Pre_ancestors_name_rows.Facts] (m : (ℓ : Loc Cert.KernelIdeal.nD Cert.KernelIdeal.τ Cert.KernelIdeal.sig) → Buf (Elt Ideal) ℓ) : Prop :=
  ∀ c : Dev Cert.KernelIdeal.nD,
    (Cert.Pre_ancestors_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ancestors_name_rows [hPre_ancestors_name_rows : Cert.Pre_ancestors_name_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ancestors_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ancestors_name_rows [hKernelIdeal : Cert.KernelIdeal.Facts] [hPre_ancestors_name_rows : Cert.Pre_ancestors_name_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ancestors_name_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ancestors_name_rows [hReferenceIdeal : Cert.ReferenceIdeal.Facts] [hPre_ancestors_name_rows : Cert.Pre_ancestors_name_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ancestors_name_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_ancestors_name_rows [hKernelIdeal : Cert.KernelIdeal.Facts] [hReferenceIdeal : Cert.ReferenceIdeal.Facts] [hPre_ancestors_name_rows : Cert.Pre_ancestors_name_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ancestors_name_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ancestors_name_rows : Cert.Pre_ancestors_name_rows.Facts),
    quiescent_Kernel (hKernel := hKernel)
    ∧ quiescent_KernelIdeal (hKernelIdeal := hKernelIdeal)
    ∧ quiescent_KernelIdeal_pre_ancestors_name_rows (hKernelIdeal := hKernelIdeal) (hPre_ancestors_name_rows := hPre_ancestors_name_rows)
    ∧ quiescent_ReferenceIdeal (hReferenceIdeal := hReferenceIdeal)
    ∧ quiescent_ReferenceIdeal_pre_ancestors_name_rows (hReferenceIdeal := hReferenceIdeal) (hPre_ancestors_name_rows := hPre_ancestors_name_rows)
    ∧ preserves_Kernel_KernelIdeal
    ∧ algebraic_KernelIdeal_ReferenceIdeal_pre_ancestors_name_rows (hKernelIdeal := hKernelIdeal) (hReferenceIdeal := hReferenceIdeal) (hPre_ancestors_name_rows := hPre_ancestors_name_rows)
-- ==== Pre_ancestors_name_rows.lean ====
abbrev S4096x256x32 : Shape := ⟨3, ![4096, 256, 32]⟩
abbrev S256x32 : Shape := ⟨2, ![256, 32]⟩
abbrev S16x256x32 : Shape := ⟨3, ![16, 256, 32]⟩
abbrev S8x16 : Shape := ⟨2, ![8, 16]⟩
abbrev S3 : Shape := ⟨1, ![3]⟩
abbrev S_ : Shape := ⟨0, ![]⟩

class Facts : Prop where
  bcast_S_S3 : S_.BroadcastsInDim S3 (![] : Fin 0 → Fin S3.rank)
  reducesTo_S3_S_d0 : S3.ReducesTo [0] S_
  h_S_ : 0 < S_.numel

variable [Facts]

def fn {F : FTy → Type} [FloatOps F] (main_arg0 : FVec F S4096x256x32 .f32) (main_arg1 : FVec F S256x32 .f32) (main_arg2 : FVec F S16x256x32 .f32) (main_arg3 : IVec S8x16 1) (main_arg4 : IVec S3 32) : IVec S_ 1 :=
  let main_c : IVec S_ 32 := constantI S_ 32 0#32
  let main_v0 : IVec S3 32 := broadcastInDim S3 ![] bcast_S_S3 main_c
  let main_v1 : IVec S3 1 := cmpi .sge main_arg4 main_v0
  let main_c_0 : IVec S_ 32 := constantI S_ 32 8#32
  let main_v2 : IVec S3 32 := broadcastInDim S3 ![] bcast_S_S3 main_c_0
  let main_v3 : IVec S3 1 := cmpi .slt main_arg4 main_v2
  let main_v4 : IVec S3 1 := andi main_v1 main_v3
  let main_c_1 : IVec S_ 1 := constantI S_ 1 1#1
  let main_v5 : IVec S_ 1 := (fun x v => Host.reduce IntOp.andi x v reducesTo_S3_S_d0 h_S_) main_v4 main_c_1
  main_v5
-- ==== Kernel.lean ====
abbrev S4096x256x32 : Shape := ⟨3, ![4096, 256, 32]⟩
abbrev S256x32 : Shape := ⟨2, ![256, 32]⟩
abbrev S16x256x32 : Shape := ⟨3, ![16, 256, 32]⟩
abbrev S8x16 : Shape := ⟨2, ![8, 16]⟩
abbrev S3 : Shape := ⟨1, ![3]⟩
abbrev S4096x32x256 : Shape := ⟨3, ![4096, 32, 256]⟩
abbrev S16x32x256 : Shape := ⟨3, ![16, 32, 256]⟩
abbrev S32x256 : Shape := ⟨2, ![32, 256]⟩
abbrev S1x32x256 : Shape := ⟨3, ![1, 32, 256]⟩
abbrev S4096x1 : Shape := ⟨2, ![4096, 1]⟩
abbrev S4096 : Shape := ⟨1, ![4096]⟩
abbrev S512x32x256 : Shape := ⟨3, ![512, 32, 256]⟩
abbrev S512x1 : Shape := ⟨2, ![512, 1]⟩
abbrev S32x512x16 : Shape := ⟨3, ![32, 512, 16]⟩
abbrev S512x16 : Shape := ⟨2, ![512, 16]⟩
abbrev S512 : Shape := ⟨1, ![512]⟩
abbrev S1 : Shape := ⟨1, ![1]⟩
abbrev S16 : Shape := ⟨1, ![16]⟩
abbrev S1x16 : Shape := ⟨2, ![1, 16]⟩

abbrev nBuf : Space → Nat
  | .hbm => 12
  | .vmem => 7
  | .smem => 1
  | _ => 0

abbrev bufTy : (tb : Table) → Fin (tcTables nBuf tb) → BufTy
  | .hbm, ⟨0, _⟩ => ⟨S4096x256x32, .f32⟩
  | .hbm, ⟨1, _⟩ => ⟨S256x32, .f32⟩
  | .hbm, ⟨2, _⟩ => ⟨S16x256x32, .f32⟩
  | .hbm, ⟨3, _⟩ => ⟨S8x16, .i1⟩
  | .hbm, ⟨4, _⟩ => ⟨S3, .i32⟩
  | .hbm, ⟨5, _⟩ => ⟨S4096x32x256, .f32⟩
  | .hbm, ⟨6, _⟩ => ⟨S16x32x256, .f32⟩
  | .hbm, ⟨7, _⟩ => ⟨S32x256, .f32⟩
  | .hbm, ⟨8, _⟩ => ⟨S1x32x256, .f32⟩
  | .hbm, ⟨9, _⟩ => ⟨S8x16, .f32⟩
  | .hbm, ⟨10, _⟩ => ⟨S4096x1, .f32⟩
  | .hbm, ⟨11, _⟩ => ⟨S4096, .f32⟩
  | .local _ .vmem, ⟨0, _⟩ => ⟨S512x32x256, .f32⟩
  | .local _ .vmem, ⟨1, _⟩ => ⟨S512x32x256, .f32⟩
  | .local _ .vmem, ⟨2, _⟩ => ⟨S16x32x256, .f32⟩
  | .local _ .vmem, ⟨3, _⟩ => ⟨S1x32x256, .f32⟩
  | .local _ .vmem, ⟨4, _⟩ => ⟨S8x16, .f32⟩
  | .local _ .vmem, ⟨5, _⟩ => ⟨S512x1, .f32⟩
  | .local _ .vmem, ⟨6, _⟩ => ⟨S512x1, .f32⟩
  | .local _ .smem, ⟨0, _⟩ => ⟨S3, .i32⟩
  | _, _ => ⟨S4096x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S3 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x256x32 : Shape := ⟨3, ![4096, 256, 32]⟩
abbrev S256x32 : Shape := ⟨2, ![256, 32]⟩
abbrev S16x256x32 : Shape := ⟨3, ![16, 256, 32]⟩
abbrev S8x16 : Shape := ⟨2, ![8, 16]⟩
abbrev S3 : Shape := ⟨1, ![3]⟩
abbrev S4096 : Shape := ⟨1, ![4096]⟩
abbrev S4096x16 : Shape := ⟨2, ![4096, 16]⟩
abbrev S_ : Shape := ⟨0, ![]⟩
abbrev S4096x1 : Shape := ⟨2, ![4096, 1]⟩
abbrev S3x1 : Shape := ⟨2, ![3, 1]⟩
abbrev S3x16 : Shape := ⟨2, ![3, 16]⟩
abbrev S4096x1x16 : Shape := ⟨3, ![4096, 1, 16]⟩
abbrev S1x3x16 : Shape := ⟨3, ![1, 3, 16]⟩
abbrev S4096x3x16 : Shape := ⟨3, ![4096, 3, 16]⟩
abbrev S4096x3 : Shape := ⟨2, ![4096, 3]⟩
abbrev S4096x3x1 : Shape := ⟨3, ![4096, 3, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x256x32, .f32⟩
  | .hbm, ⟨1, _⟩ => ⟨S256x32, .f32⟩
  | .hbm, ⟨2, _⟩ => ⟨S16x256x32, .f32⟩
  | .hbm, ⟨3, _⟩ => ⟨S8x16, .i1⟩
  | .hbm, ⟨4, _⟩ => ⟨S3, .i32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096x16, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .i1⟩
  | .hbm, ⟨16, _⟩ => ⟨S_, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x16, .f32⟩
  | .hbm, ⟨29, _⟩ => ⟨S4096x16, .f32⟩
  | .hbm, ⟨30, _⟩ => ⟨S_, .i32⟩
  | .hbm, ⟨31, _⟩ => ⟨S3, .i32⟩
  | .hbm, ⟨32, _⟩ => ⟨S3, .i1⟩
  | .hbm, ⟨33, _⟩ => ⟨S_, .i32⟩
  | .hbm, ⟨34, _⟩ => ⟨S3, .i32⟩
  | .hbm, ⟨35, _⟩ => ⟨S3, .i32⟩
  | .hbm, ⟨36, _⟩ => ⟨S3, .i32⟩
  | .hbm, ⟨37, _⟩ => ⟨S3x1, .i32⟩
  | .hbm, ⟨38, _⟩ => ⟨S3x16, .i1⟩
  | .hbm, ⟨39, _⟩ => ⟨S3x16, .f32⟩
  | .hbm, ⟨40, _⟩ => ⟨S3x16, .f32⟩
  | .hbm, ⟨41, _⟩ => ⟨S4096x1x16, .f32⟩
  | .hbm, ⟨42, _⟩ => ⟨S1x3x16, .f32⟩
  | .hbm, ⟨43, _⟩ => ⟨S4096x3x16, .f32⟩
  | .hbm, ⟨44, _⟩ => ⟨S4096x3x16, .f32⟩
  | .hbm, ⟨45, _⟩ => ⟨S4096x3x16, .f32⟩
  | .hbm, ⟨46, _⟩ => ⟨S_, .f32⟩
  | .hbm, ⟨47, _⟩ => ⟨S4096x3, .f32⟩
  | .hbm, ⟨48, _⟩ => ⟨S4096x3x1, .f32⟩
  | .hbm, ⟨49, _⟩ => ⟨S4096x3x1, .f32⟩
  | .hbm, ⟨50, _⟩ => ⟨S_, .f32⟩
  | .hbm, ⟨51, _⟩ => ⟨S4096x3x1, .f32⟩
  | .hbm, ⟨52, _⟩ => ⟨S4096x3x1, .i1⟩
  | .hbm, ⟨53, _⟩ => ⟨S_, .f32⟩
  | .hbm, ⟨54, _⟩ => ⟨S_, .f32⟩
  | .hbm, ⟨55, _⟩ => ⟨S4096x3x1, .f32⟩
  | .hbm, ⟨56, _⟩ => ⟨S4096x3x1, .f32⟩
  | .hbm, ⟨57, _⟩ => ⟨S4096x3x16, .f32⟩
  | .hbm, ⟨58, _⟩ => ⟨S4096x3x16, .f32⟩
  | .hbm, ⟨59, _⟩ => ⟨S4096x3x16, .f32⟩
  | .hbm, ⟨60, _⟩ => ⟨S_, .f32⟩
  | .hbm, ⟨61, _⟩ => ⟨S4096x3, .f32⟩
  | .hbm, ⟨62, _⟩ => ⟨S4096x3x1, .f32⟩
  | .hbm, ⟨63, _⟩ => ⟨S4096x3x1, .f32⟩
  | .hbm, ⟨64, _⟩ => ⟨S4096x3x1, .f32⟩
  | .hbm, ⟨65, _⟩ => ⟨S4096x3, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S4096, .f32⟩
  | _, _ => ⟨S4096x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Proof.Rows.lean ====
/-
  The precondition, read: every ancestor names one of the eight rows of the selection table. As a function of three
  ancestors it is `b : Fin 3 → Fin 8`, with the word of ancestor `i` the word of `b i`.
-/
module

public import proofs.«01_k».proof.Pre_ancestors_name_rows
public import Idealize.ShloMosaic.Lib.Pointwise
public import Idealize.ShloMosaic.Lib.ReduceAll

@[expose] public section

set_option maxRecDepth 16384

noncomputable section

namespace Cert.Proof.Rows

open Idealize.ShloMosaic Cert.Pre_ancestors_name_rows

/-- The shape relations that the precondition's operations take. -/
theorem facts : Facts where
  bcast_S_S3 := by decide
  reducesTo_S3_S_d0 := by decide
  h_S_ := by decide

/-- A word that is at least 0 and below 8, both read signed, is a number below 8. -/
theorem word_lt (v : BitVec 32) (h : IntOp.andi (IntOp.cmpi .sge v 0#32) (IntOp.cmpi .slt v 8#32) = 1#1) :
    v.toNat < 8 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide, decide_eq_true_eq,
    BitVec.toInt_eq_toNat_cond, BitVec.toNat_ofNat, Nat.reducePow, Nat.reduceMod] at h
  omega

/-- Under the precondition every ancestor's word is the word of a row's number. -/
theorem exists_rows [Facts] (x : FVec Ideal S4096x256x32 .f32) (h0 : FVec Ideal S256x32 .f32)
    (H : FVec Ideal S16x256x32 .f32) (s : IVec S8x16 1) (a : IVec S3 32)
    (h : fn (F := Ideal) x h0 H s a = fun _ => 1#1) :
    ∃ b : Fin 3 → Fin 8, ∀ i, a (ix1 i) = BitVec.ofNat 32 (b i).val := by
  have hlt (i : Fin 3) : (a (ix1 i)).toNat < 8 := by
    have : Subsingleton S_.Idx := ⟨fun p q => funext fun d => d.elim0⟩
    exact word_lt _ (Host.reduce_andi_all _ _ _ _ ix0 (congrFun h ix0) (ix1 i))
  exact ⟨fun i => ⟨(a (ix1 i)).toNat, hlt i⟩, fun i => by simp⟩

end Cert.Proof.Rows

end
-- ==== Proof.Row.lean ====
/-
  The mathematics of one row, over the extended reals and with nothing of either program: the logarithm of a sum of
  exponentials as the kernel writes it (`sumLog`: the maximum, plus the logarithm of the shifted sum) and as the
  reference writes it (`sumLogRef`: shifted by the maximum only where that is finite), and the term that each of them
  makes of one ancestor: normalise the row of mode energies, add the logarithms of the ancestor's selection, take the
  logarithm of the sum of exponentials again. The two terms agree on every row of extended reals (`term_eq`), though
  the two logarithms of sums do not: where the maximum of a row is `⊤`, the kernel's is `⊥` and the reference's is `⊤`.
-/
module

public import Idealize.ShloMosaic.PureOps.Ideal

@[expose] public section

noncomputable section

namespace Cert.Proof

open Idealize.ShloMosaic

/-- The greatest entry of a row. -/
def rowMax (f : Fin 16 → EReal) : EReal := Finset.univ.fold max ⊥ f

/-- The logarithm of the sum of exponentials, as the kernel writes it. -/
def sumLog (f : Fin 16 → EReal) : EReal := rowMax f + Ideal.log (∑ k, Ideal.exp (f k - rowMax f))

/-- What the reference shifts a row by: its greatest entry where that is finite, else 0. -/
def shift (M : EReal) : EReal := if max M (-M) < ⊤ then M else 0

/-- The logarithm of the sum of exponentials, as the reference writes it. -/
def sumLogRef (f : Fin 16 → EReal) : EReal :=
  Ideal.log (∑ k, Ideal.exp (f k - shift (rowMax f))) + shift (rowMax f)

/-- Every entry is at most the greatest. -/
theorem le_rowMax (f : Fin 16 → EReal) (j : Fin 16) : f j ≤ rowMax f :=
  (Finset.fold_max_le (rowMax f)).mp le_rfl |>.2 j (Finset.mem_univ j)

/-- The greatest entry is at most any bound of all entries. -/
theorem rowMax_le {f : Fin 16 → EReal} {c : EReal} (h : ∀ j, f j ≤ c) : rowMax f ≤ c :=
  (Finset.fold_max_le c).mpr ⟨bot_le, fun j _ => h j⟩

/-- A row whose greatest entry is `⊥` is `⊥` throughout. -/
theorem eq_bot_of_rowMax {f : Fin 16 → EReal} (h : rowMax f = ⊥) (j : Fin 16) : f j = ⊥ :=
  le_bot_iff.mp (h ▸ le_rowMax f j)

/-- The greatest entry is one of the entries. -/
theorem exists_eq_rowMax (f : Fin 16 → EReal) : ∃ j, f j = rowMax f := by
  obtain ⟨j, -, hj⟩ := Finset.exists_max_image Finset.univ f ⟨0, Finset.mem_univ _⟩
  exact ⟨j, le_antisymm (le_rowMax f j) (rowMax_le fun k => hj k (Finset.mem_univ k))⟩

/-- A real is not shifted away: the reference shifts by it. -/
theorem shift_coe (r : ℝ) : shift (r : EReal) = r := by
  have h : max (r : EReal) (-(r : EReal)) < ⊤ := max_lt (EReal.coe_lt_top r) (by
    rw [← EReal.coe_neg]; exact EReal.coe_lt_top _)
  rw [shift, if_pos h]

/-- The reference shifts by 0 where the greatest entry is `⊤`. -/
theorem shift_top : shift ⊤ = 0 := by simp [shift]

/-- The reference shifts by 0 where the greatest entry is `⊥`. -/
theorem shift_bot : shift ⊥ = 0 := by simp [shift]

/-- The logarithm of 0. -/
theorem log_zero : Ideal.log 0 = ⊥ := by
  rw [← EReal.coe_zero, Ideal.log_coe, if_pos le_rfl]

/-- The exponential is nowhere negative. -/
theorem exp_nonneg (x : EReal) : 0 ≤ Ideal.exp x := by
  induction x with
  | bot => simp
  | top => simp
  | coe r => rw [Ideal.exp_coe]; exact_mod_cast (Real.exp_pos r).le

/-- The logarithm of anything from 1 on is above `⊥`. -/
theorem log_ne_bot {x : EReal} (h : 1 ≤ x) : Ideal.log x ≠ ⊥ := by
  induction x with
  | bot => exact absurd h (by decide)
  | top => simp
  | coe r =>
    have h' : (1 : ℝ) ≤ r := by exact_mod_cast h
    rw [Ideal.log_coe, if_neg (by linarith)]
    exact EReal.coe_ne_bot _

/-- On a row whose greatest entry is finite the two logarithms of sums agree. -/
theorem sumLog_eq_of_coe {f : Fin 16 → EReal} {r : ℝ} (h : rowMax f = r) : sumLog f = sumLogRef f := by
  rw [sumLog, sumLogRef, h, shift_coe, add_comm]

/-- On a row whose greatest entry is finite the logarithm of the sum is above `⊥`: the greatest entry contributes 1. -/
theorem sumLog_ne_bot {f : Fin 16 → EReal} {r : ℝ} (h : rowMax f = r) : sumLog f ≠ ⊥ := by
  obtain ⟨j, hj⟩ := exists_eq_rowMax f
  have h1 : (1 : EReal) ≤ ∑ k, Ideal.exp (f k - rowMax f) := by
    refine le_trans (le_of_eq ?_)
      (Finset.single_le_sum (f := fun k => Ideal.exp (f k - rowMax f)) (fun k _ => exp_nonneg _) (Finset.mem_univ j))
    show (1 : EReal) = Ideal.exp (f j - rowMax f)
    rw [hj, h, ← EReal.coe_sub, Ideal.exp_coe, sub_self, Real.exp_zero, EReal.coe_one]
  rw [sumLog, Ne, EReal.add_eq_bot_iff, not_or]
  exact ⟨by rw [h]; exact EReal.coe_ne_bot r, log_ne_bot h1⟩

/-- On a row of `⊥` the kernel's logarithm of the sum is `⊥`. -/
theorem sumLog_of_bot {f : Fin 16 → EReal} (h : rowMax f = ⊥) : sumLog f = ⊥ := by
  rw [sumLog, h, EReal.bot_add]

/-- On a row whose greatest entry is `⊤` the kernel's logarithm of the sum is `⊥`: every shifted entry is `⊥`. -/
theorem sumLog_of_top {f : Fin 16 → EReal} (h : rowMax f = ⊤) : sumLog f = ⊥ := by
  rw [sumLog, h]
  simp [EReal.sub_top, log_zero]

/-- On a row of `⊥` the reference's logarithm of the sum is `⊥`. -/
theorem sumLogRef_of_bot {f : Fin 16 → EReal} (h : rowMax f = ⊥) : sumLogRef f = ⊥ := by
  rw [sumLogRef, h, shift_bot]
  simp [eq_bot_of_rowMax h, log_zero]

/-- On a row whose greatest entry is `⊤` the reference's logarithm of the sum is `⊤`. -/
theorem sumLogRef_of_top {f : Fin 16 → EReal} (h : rowMax f = ⊤) : sumLogRef f = ⊤ := by
  obtain ⟨j, hj⟩ := exists_eq_rowMax f
  have h1 : ∑ k, Ideal.exp (f k - 0) = ⊤ := by
    refine top_le_iff.mp (le_trans (le_of_eq ?_)
      (Finset.single_le_sum (f := fun k => Ideal.exp (f k - 0)) (fun k _ => exp_nonneg _) (Finset.mem_univ j)))
    show (⊤ : EReal) = Ideal.exp (f j - 0)
    rw [hj, h, sub_zero, Ideal.exp_top]
  rw [sumLogRef, h, shift_top, h1, Ideal.log_top, add_zero]

/-- THE TERM OF ONE ANCESTOR: on any row `m` of mode energies and any row `s` of logarithms of selections (none of
    them `⊤`), the kernel's term and the reference's are equal. -/
theorem term_eq (m s : Fin 16 → EReal) (hs : ∀ j, s j ≠ ⊤) :
    sumLog (fun j => m j - sumLog m + s j) = sumLogRef (fun j => m j - sumLogRef m + s j) := by
  induction hM : rowMax m with
  | bot =>
    have hb (L : EReal) : rowMax (fun j => m j - L + s j) = ⊥ := le_bot_iff.mp (rowMax_le fun j => by
      rw [eq_bot_of_rowMax hM j, sub_eq_add_neg, EReal.bot_add, EReal.bot_add])
    rw [sumLog_of_bot (hb _), sumLogRef_of_bot (hb _)]
  | top =>
    rw [sumLog_of_top hM, sumLogRef_of_top hM]
    have hr : rowMax (fun j => m j - ⊤ + s j) = ⊥ := le_bot_iff.mp (rowMax_le fun j => by
      rw [EReal.sub_top, EReal.bot_add])
    rw [sumLogRef_of_bot hr]
    have hv (j : Fin 16) : m j - ⊥ + s j = ⊥ ∨ m j - ⊥ + s j = ⊤ := by
      by_cases hm : m j = ⊥
      · exact .inl (by rw [hm, sub_eq_add_neg, EReal.bot_add, EReal.bot_add])
      · rw [sub_eq_add_neg, EReal.neg_bot, EReal.add_top_of_ne_bot hm]
        by_cases hj : s j = ⊥
        · exact .inl (by rw [hj, EReal.add_bot])
        · exact .inr (EReal.top_add_of_ne_bot hj)
    obtain ⟨j, hj⟩ := exists_eq_rowMax fun j => m j - ⊥ + s j
    rcases hv j with h | h
    · exact sumLog_of_bot (hj.symm.trans h)
    · exact sumLog_of_top (hj.symm.trans h)
  | coe r =>
    rw [← sumLog_eq_of_coe hM]
    have hL := sumLog_ne_bot hM
    have ht : rowMax (fun j => m j - sumLog m + s j) ≠ ⊤ := by
      obtain ⟨j, hj⟩ := exists_eq_rowMax fun j => m j - sumLog m + s j
      rw [← hj]
      have hm : m j ≠ ⊤ := fun h => absurd (h ▸ hM ▸ le_rowMax m j) (not_le.mpr (EReal.coe_lt_top r))
      refine (EReal.add_lt_top ?_ (hs j)).ne
      rw [sub_eq_add_neg]
      exact (EReal.add_lt_top hm (by rwa [Ne, EReal.neg_eq_top_iff])).ne
    induction hT : rowMax (fun j => m j - sumLog m + s j) with
    | bot => rw [sumLog_of_bot hT, sumLogRef_of_bot hT]
    | top => exact absurd hT ht
    | coe t => exact sumLog_eq_of_coe hT

/-! ## A whole row -/

/-- The logarithm of a selection bit: `⊥` where it is clear, 0 where it is set. -/
def logBit (v : BitVec 1) : EReal := Ideal.log ((v.toNat : ℝ) : EReal)

/-- The logarithm of a bit is not `⊤`. -/
theorem logBit_ne_top (v : BitVec 1) : logBit v ≠ ⊤ := by
  rw [logBit, Ideal.log_coe]
  split
  · exact bot_ne_top
  · exact EReal.coe_ne_top _

/-- The energy of one row, of its mode energies `m`, the selection bits `s` of the three ancestors and the linear
    field `f`, as the reference has it. -/
def energyRow (m : Fin 16 → EReal) (s : Fin 3 → Fin 16 → BitVec 1) (f : EReal) : EReal :=
  -(∑ i, sumLogRef (fun j => m j - sumLogRef m + logBit (s i j)) + f)

/-- The energy of one row as the kernel accumulates it: three terms, each in two parts, from 0, then the linear field,
    subtracted from 0. -/
theorem energyRow_eq (m : Fin 16 → EReal) (s : Fin 3 → Fin 16 → BitVec 1) (f : EReal) (t : Fin 3 → Fin 16 → EReal)
    (ht : ∀ i j, t i j = m j - sumLog m + logBit (s i j)) :
    0 - (0 + rowMax (t 0) + Ideal.log (∑ k, Ideal.exp (t 0 k - rowMax (t 0)))
          + rowMax (t 1) + Ideal.log (∑ k, Ideal.exp (t 1 k - rowMax (t 1)))
          + rowMax (t 2) + Ideal.log (∑ k, Ideal.exp (t 2 k - rowMax (t 2))) + f) = energyRow m s f := by
  have hi (i : Fin 3) : sumLogRef (fun j => m j - sumLogRef m + logBit (s i j))
      = rowMax (t i) + Ideal.log (∑ k, Ideal.exp (t i k - rowMax (t i))) := by
    rw [← term_eq m _ fun j => logBit_ne_top _]
    show sumLog _ = sumLog (t i)
    exact congrArg sumLog (funext fun j => (ht i j).symm)
  simp only [energyRow, hi, Fin.sum_univ_three, zero_sub, zero_add, add_assoc]

/-- The pattern of minus infinity. -/
theorem ofBits_negInf : Ideal.ofBits .f32 0xFF800000#32 = (⊥ : EReal) := by simp [Ideal.ofBits, Ideal.ieee]

/-- The pattern of plus infinity. -/
theorem ofBits_posInf : Ideal.ofBits .f32 0x7F800000#32 = (⊤ : EReal) := by simp [Ideal.ofBits, Ideal.ieee]

end Cert.Proof

end
-- ==== Proof.RefValue.lean ====
/-
  The reference's result, read at a row: `energies_apply`. The composed term that the reference's operations leave is
  first written as the parts that the reference's text names (`modes`, `normed`, `logSel`, `terms`, `termsLog`,
  `energies`; `result_eq`), and each part is then read at an index.
-/
module

public import proofs.«01_k».proof.Proof.Row
public import proofs.«01_k».proof.Proof.Gen.ReferenceIdeal.Run
public import Idealize.ShloMosaic.Lib.Pointwise
public import Idealize.ShloMosaic.Lib.Routing.Ops

@[expose] public section

set_option maxRecDepth 16384

noncomputable section

namespace Cert.Proof.Reference

open Idealize.ShloMosaic Idealize.SL.Sem Cert.ReferenceIdeal Cert.ReferenceIdeal.Gen Cert.ReferenceIdeal.Value

/-- The mode energies `x · H_j` of every row. -/
def modes (x : FVec Ideal S4096x256x32 .f32) (H : FVec Ideal S16x256x32 .f32) : FVec Ideal S4096x16 .f32 :=
  Host.dotGeneral dot_S4096x256x32_S16x256x32_S4096x16_12_12_0_0_n_n none x H

/-- The greatest mode energy of every row, replaced by 0 where it is not finite. -/
def modesShift (e : FVec Ideal S4096x16 .f32) : FVec Ideal S4096x1 .f32 :=
  select (cmpf .olt (Host.absf (broadcastInDim S4096x1 ![0] bcast_S4096_S4096x1_0
        (Host.reduce FloatOps.maximumf e (constant S_ .f32 0xFF800000#32) reducesTo_S4096x16_S4096_d1 h_S_)))
      (broadcastInDim S4096x1 ![] bcast_S_S4096x1 (constant S_ .f32 0x7F800000#32)))
    (broadcastInDim S4096x1 ![0] bcast_S4096_S4096x1_0
      (Host.reduce FloatOps.maximumf e (constant S_ .f32 0xFF800000#32) reducesTo_S4096x16_S4096_d1 h_S_))
    (broadcastInDim S4096x1 ![] bcast_S_S4096x1 (id (constant S_ .f32 0x00000000#32)))

/-- The mode energies less the logarithm of the sum of their exponentials. -/
def normed (e : FVec Ideal S4096x16 .f32) : FVec Ideal S4096x16 .f32 :=
  subf e (broadcastInDim S4096x16 ![0, 1] bcast_S4096x1_S4096x16_0_1
    (addf (Host.log (broadcastInDim S4096x1 ![0] bcast_S4096_S4096x1_0
        (Host.reduceAdd (Host.exp (subf e (broadcastInDim S4096x16 ![0, 1] bcast_S4096x1_S4096x16_0_1 (modesShift e))))
          (constant S_ .f32 0x00000000#32) reducesTo_S4096x16_S4096_d1 h_S_)))
      (modesShift e)))

/-- The row of the selection table that each ancestor names: its index, counted from the end where it is negative. -/
def rowIndex (a : IVec S3 32) : IVec S3x1 32 :=
  broadcastInDim S3x1 ![0] bcast_S3_S3x1_0
    (select (cmpi .slt a (broadcastInDim S3 ![] bcast_S_S3 (constantI S_ 32 0#32)))
      (addi a (broadcastInDim S3 ![] bcast_S_S3 (constantI S_ 32 8#32))) a)

/-- The logarithms of the selections that the ancestors name. -/
def logSel (s : IVec S8x16 1) (a : IVec S3 32) : FVec Ideal S3x16 .f32 :=
  Host.log (uitofp .f32 (Host.gather gather_S8x16_S3x1_S3x16_1_0_n_n_0_1_116 s (rowIndex a)))

/-- Every row's normalised mode energies plus every ancestor's logarithms. -/
def terms (e : FVec Ideal S4096x16 .f32) (l : FVec Ideal S3x16 .f32) : FVec Ideal S4096x3x16 .f32 :=
  addf (broadcastInDim S4096x3x16 ![0, 1, 2] bcast_S4096x1x16_S4096x3x16_0_1_2
      (broadcastInDim S4096x1x16 ![0, 2] bcast_S4096x16_S4096x1x16_0_2 e))
    (broadcastInDim S4096x3x16 ![0, 1, 2] bcast_S1x3x16_S4096x3x16_0_1_2
      (broadcastInDim S1x3x16 ![1, 2] bcast_S3x16_S1x3x16_1_2 l))

/-- The greatest term of every row and ancestor, replaced by 0 where it is not finite. -/
def termsShift (t : FVec Ideal S4096x3x16 .f32) : FVec Ideal S4096x3x1 .f32 :=
  select (cmpf .olt (Host.absf (broadcastInDim S4096x3x1 ![0, 1] bcast_S4096x3_S4096x3x1_0_1
        (Host.reduce FloatOps.maximumf t (constant S_ .f32 0xFF800000#32) reducesTo_S4096x3x16_S4096x3_d2 h_S_)))
      (broadcastInDim S4096x3x1 ![] bcast_S_S4096x3x1 (constant S_ .f32 0x7F800000#32)))
    (broadcastInDim S4096x3x1 ![0, 1] bcast_S4096x3_S4096x3x1_0_1
      (Host.reduce FloatOps.maximumf t (constant S_ .f32 0xFF800000#32) reducesTo_S4096x3x16_S4096x3_d2 h_S_))
    (broadcastInDim S4096x3x1 ![] bcast_S_S4096x3x1 (id (constant S_ .f32 0x00000000#32)))

/-- The logarithm of the sum of exponentials of every row's and ancestor's terms. -/
def termsLog (t : FVec Ideal S4096x3x16 .f32) : FVec Ideal S4096x3 .f32 :=
  shapeCast _ (addf (Host.log (broadcastInDim S4096x3x1 ![0, 1] bcast_S4096x3_S4096x3x1_0_1
      (Host.reduceAdd (Host.exp (subf t (broadcastInDim S4096x3x16 ![0, 1, 2] bcast_S4096x3x1_S4096x3x16_0_1_2 (termsShift t))))
        (constant S_ .f32 0x00000000#32) reducesTo_S4096x3x16_S4096x3_d2 h_S_)))
    (termsShift t)) shapeCasts_S4096x3x1_S4096x3

/-- The energies: minus the sum over the ancestors and the linear field. -/
def energies (x : FVec Ideal S4096x256x32 .f32) (h0 : FVec Ideal S256x32 .f32) (H : FVec Ideal S16x256x32 .f32)
    (s : IVec S8x16 1) (a : IVec S3 32) : FVec Ideal S4096 .f32 :=
  Host.negf (addf
    (Host.negf (Host.negf (Host.reduceAdd (termsLog (terms (normed (modes x H)) (logSel s a)))
      (constant S_ .f32 0x00000000#32) reducesTo_S4096x3_S4096_d1 h_S_)))
    (Host.negf (Host.negf (Host.dotGeneral dot_S4096x256x32_S256x32_S4096_12_01_0_n_n_n none x h0))))

/-- The reference's composed result is `energies` of its arguments. -/
theorem result_eq (m : (ℓ : Loc nD τ sig) → Buf (Elt Ideal) ℓ) (c : Dev nD) :
    res_out0 (F := Ideal) m c = energies (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold res_out0 res_main_v51 energies termsLog termsShift terms normed modesShift modes logSel rowIndex
  rfl

/-! ## The parts at an index -/

/-- A sum over modes at row `n`: its mode energy `∑ x · H_j`. -/
theorem modes_apply (x : FVec Ideal S4096x256x32 .f32) (H : FVec Ideal S16x256x32 .f32) (n : Fin 4096) (j : Fin 16) :
    modes x H (ix2 n j) = ∑ l : Fin 256, ∑ q : Fin 32, x (ix3 n l q) * H (ix3 j l q) := by
  pointwise [modes]

/-- What the mode energies of row `n` are shifted by. -/
theorem modesShift_apply (e : FVec Ideal S4096x16 .f32) (n : Fin 4096) :
    modesShift e (ix2 n 0) = shift (rowMax fun j => e (ix2 n j)) := by
  pointwise [modesShift, ofBits_negInf, ofBits_posInf]
  rw [show id (constant (F := Ideal) S_ .f32 0#32) ix0 = (0 : EReal) from Ideal.ofBits_zero_f32]
  rfl

/-- The normalised mode energies of row `n`. -/
theorem normed_apply (e : FVec Ideal S4096x16 .f32) (n : Fin 4096) (j : Fin 16) :
    normed e (ix2 n j) = e (ix2 n j) - sumLogRef fun k => e (ix2 n k) := by
  pointwise [normed]
  rw [modesShift_apply, sumLogRef]

/-- A term: row `n`'s normalised mode energy plus ancestor `i`'s logarithm. -/
theorem terms_apply (e : FVec Ideal S4096x16 .f32) (l : FVec Ideal S3x16 .f32) (n : Fin 4096) (i : Fin 3) (j : Fin 16) :
    terms e l (ix3 n i j) = e (ix2 n j) + l (ix2 i j) := by
  pointwise [terms]

/-- What the terms of row `n` and ancestor `i` are shifted by. -/
theorem termsShift_apply (t : FVec Ideal S4096x3x16 .f32) (n : Fin 4096) (i : Fin 3) :
    termsShift t (ix3 n i 0) = shift (rowMax fun j => t (ix3 n i j)) := by
  pointwise [termsShift, ofBits_negInf, ofBits_posInf]
  rw [show id (constant (F := Ideal) S_ .f32 0#32) ix0 = (0 : EReal) from Ideal.ofBits_zero_f32]
  rfl

/-- The logarithm of the sum of exponentials of the terms of row `n` and ancestor `i`. -/
theorem termsLog_apply (t : FVec Ideal S4096x3x16 .f32) (n : Fin 4096) (i : Fin 3) :
    termsLog t (ix2 n i) = sumLogRef fun j => t (ix3 n i j) := by
  pointwise [termsLog]
  rw [termsShift_apply, sumLogRef]

/-- The word of a row's number is not negative, so the table is read at that row. -/
theorem rowIndex_apply (a : IVec S3 32) (i : Fin 3) (b : Fin 8) (h : a (ix1 i) = BitVec.ofNat 32 b.val) :
    rowIndex a (ix2 i 0) = BitVec.ofNat 32 b.val := by
  pointwise [rowIndex]
  rw [h]
  clear h
  revert b
  decide

/-- The logarithm of a selection bit of the row that ancestor `i` names. -/
theorem logSel_apply (s : IVec S8x16 1) (a : IVec S3 32) (i : Fin 3) (j : Fin 16) (b : Fin 8)
    (h : a (ix1 i) = BitVec.ofNat 32 b.val) : logSel s a (ix2 i j) = logBit (s (ix2 b j)) := by
  pointwise [logSel]
  have hg : Host.gather gather_S8x16_S3x1_S3x16_1_0_n_n_0_1_116 s (rowIndex a) (ix2 i j) = s (ix2 b j) :=
    Routing.gather_row _ rfl rfl rfl rfl rfl s (rowIndex a) i j b (rowIndex_apply a i b h) (by decide)
  rw [hg]
  rfl

/-! ## The whole -/

/-- THE REFERENCE'S RESULT at row `n`, where ancestor `i` names row `b i` of the selection table. -/
theorem energies_apply (x : FVec Ideal S4096x256x32 .f32) (h0 : FVec Ideal S256x32 .f32) (H : FVec Ideal S16x256x32 .f32)
    (s : IVec S8x16 1) (a : IVec S3 32) (b : Fin 3 → Fin 8) (h : ∀ i, a (ix1 i) = BitVec.ofNat 32 (b i).val) (n : Fin 4096) :
    energies x h0 H s a (ix1 n)
      = energyRow (fun j => ∑ l : Fin 256, ∑ q : Fin 32, x (ix3 n l q) * H (ix3 j l q)) (fun i j => s (ix2 (b i) j))
          (∑ l : Fin 256, ∑ q : Fin 32, x (ix3 n l q) * h0 (ix2 l q)) := by
  pointwise [energies]
  simp only [neg_neg, termsLog_apply, terms_apply, normed_apply, modes_apply, logSel_apply s a _ _ _ (h _), energyRow]

end Cert.Proof.Reference

end
-- ==== Proof.KernelBlock.lean ====
/-
  One block of the kernel, read at a row: `block_apply`. The body's values are functions of what its five windows hold:
  512 rows of `x`, the sixteen modes, the linear field, the selection table as numbers, and the three ancestors' words.
-/
module

public import proofs.«01_k».proof.Proof.Gen.KernelIdeal.Skeleton
public import proofs.«01_k».proof.Proof.Row
public import Idealize.ShloMosaic.Lib.Pointwise

@[expose] public section

set_option maxRecDepth 16384

noncomputable section

namespace Cert.Proof.Block

open Idealize.ShloMosaic Cert.KernelIdeal Cert.KernelIdeal.Gen

variable (x : Vec Ideal S512x32x256 .f32) (h : Vec Ideal S16x32x256 .f32) (g : Vec Ideal S1x32x256 .f32)
  (s : Vec Ideal S8x16 .f32)

/-- Row `r`'s mode energies, summed over the block's second axis first. -/
def modeRow (r : Fin 512) (j : Fin 16) : EReal := ∑ q : Fin 32, ∑ l : Fin 256, x (ix3 r q l) * h (ix3 j q l)

/-- The sum of the table's rows, of which all but the named one are replaced by 0, is the named row. -/
theorem sum_select (b : Fin 8) (f : Fin 8 → EReal) :
    ∑ k : Fin 8, Scalar.select (IntOp.cmpi .eq (BitVec.ofNat 32 k.val) (BitVec.ofNat 32 b.val)) (f k) (0 : EReal)
      = f b := by
  have hc (k : Fin 8) : IntOp.cmpi .eq (BitVec.ofNat 32 k.val) (BitVec.ofNat 32 b.val) = if k = b then 1#1 else 0#1 := by
    revert k b
    decide
  rw [Finset.sum_eq_single b]
  · rw [hc, if_pos rfl]
    rfl
  · intro k _ hk
    rw [hc, if_neg hk]
    rfl
  · intro hb
    exact absurd (Finset.mem_univ b) hb

/-- The normalised mode energies of row `r`. -/
theorem normed_apply (r : Fin 512) (j : Fin 16) :
    k0_pay4 (F := Ideal) x h (ix2 r j) = modeRow x h r j - sumLog (modeRow x h r) := by
  pointwise [k0_pay4, k0_pay2, ofBits_negInf]
  rfl

/-- The linear field's part of row `r`. -/
theorem field_apply (r : Fin 512) :
    k0_pay3 (F := Ideal) x g (ix2 r 0) = ∑ q : Fin 32, ∑ l : Fin 256, x (ix3 r q l) * g (ix3 0 q l) := by
  pointwise [k0_pay3, k0_pay2]

/-- The table is used as it was read. -/
theorem table_eq : k0_pay5 (F := Ideal) s = s := by
  funext i
  obtain ⟨a, b, rfl⟩ : ∃ a b, i = ix2 a b := ⟨_, _, (ix2_eta i).symm⟩
  pointwise [k0_pay5]

/-- The third ancestor's terms. -/
theorem term_apply (n : FVec Ideal S512x16 .f32) (b : Fin 8) (r : Fin 512) (j : Fin 16) :
    k0_pay8 (F := Ideal) n s (iota .tc S8x16 32 [0] iota_S8x16_d0_w32) (BitVec.ofNat 32 b.val) (ix2 r j)
      = n (ix2 r j) + Ideal.log (s (ix2 b j)) := by
  pointwise [k0_pay8]
  rw [sum_select b fun k => s (ix2 k j)]

/-- The first ancestor's terms. -/
theorem firstTerm_apply (b : Fin 8) (r : Fin 512) (j : Fin 16) :
    k0_pay7 (F := Ideal) x h s (BitVec.ofNat 32 b.val) (ix2 r j)
      = k0_pay4 (F := Ideal) x h (ix2 r j) + Ideal.log (s (ix2 b j)) := by
  pointwise [k0_pay7, k0_pay5]
  rw [sum_select b fun k => s (ix2 k j)]

/-- The accumulated terms of the first two ancestors, and the third's largest. -/
theorem acc_apply (n t : FVec Ideal S512x16 .f32) (a : FVec Ideal S512x1 .f32) (b b' : Fin 8) (r : Fin 512) :
    k0_pay10 (F := Ideal) n s (iota .tc S8x16 32 [0] iota_S8x16_d0_w32) a t (BitVec.ofNat 32 b.val)
        (BitVec.ofNat 32 b'.val) (ix2 r 0)
      = a (ix2 r 0) + rowMax (fun j => t (ix2 r j))
          + Ideal.log (∑ k, Ideal.exp (t (ix2 r k) - rowMax fun j => t (ix2 r j)))
          + rowMax (fun j => n (ix2 r j) + Ideal.log (s (ix2 b j)))
          + Ideal.log (∑ k, Ideal.exp (n (ix2 r k) + Ideal.log (s (ix2 b k))
              - rowMax fun j => n (ix2 r j) + Ideal.log (s (ix2 b j))))
          + rowMax (fun j => n (ix2 r j) + Ideal.log (s (ix2 b' j))) := by
  simp only [← term_apply s n b' r]
  pointwise [k0_pay10, k0_pay9, ofBits_negInf]
  simp only [sum_select b fun k => s (ix2 k _)]
  rfl

/-- The third ancestor's sum of exponentials. -/
theorem sumExp_apply (n : FVec Ideal S512x16 .f32) (b : Fin 8) (r : Fin 512) :
    k0_pay11 (F := Ideal) n s (iota .tc S8x16 32 [0] iota_S8x16_d0_w32) (BitVec.ofNat 32 b.val) (ix2 r 0)
      = ∑ k, Ideal.exp (n (ix2 r k) + Ideal.log (s (ix2 b k))
          - rowMax fun j => n (ix2 r j) + Ideal.log (s (ix2 b j))) := by
  simp only [← term_apply s n b r]
  pointwise [k0_pay11, k0_pay9, ofBits_negInf]
  rfl

/-- What the body stores, of what its windows hold. -/
def block (w : Fin 3 → BitVec 32) : FVec Ideal S512x1 .f32 :=
  k0_pay1 (k0_pay3 x g)
    (k0_pay10 (k0_pay4 x h) (k0_pay5 s) (iota .tc S8x16 32 [0] iota_S8x16_d0_w32) k0_pay6 (k0_pay7 x h s (w 0)) (w 1) (w 2))
    (k0_pay11 (k0_pay4 x h) (k0_pay5 s) (iota .tc S8x16 32 [0] iota_S8x16_d0_w32) (w 2))

/-- THE BLOCK AT A ROW: where the table holds the bits `v` as numbers and ancestor `i`'s word is that of row `b i`, the
    stored value is the row's energy. -/
theorem block_apply (w : Fin 3 → BitVec 32) (b : Fin 3 → Fin 8) (v : Fin 8 → Fin 16 → BitVec 1)
    (hw : ∀ i, w i = BitVec.ofNat 32 (b i).val) (hs : ∀ i j, s (ix2 i j) = (((v i j).toNat : ℝ) : EReal)) (r : Fin 512) :
    block x h g s w (ix2 r 0)
      = energyRow (modeRow x h r) (fun i => v (b i)) (∑ q : Fin 32, ∑ l : Fin 256, x (ix3 r q l) * g (ix3 0 q l)) := by
  rw [← energyRow_eq _ _ _ (fun i j => k0_pay4 (F := Ideal) x h (ix2 r j) + Ideal.log (s (ix2 (b i) j)))
    fun i j => by rw [normed_apply, hs]; rfl]
  rw [block, table_eq, hw 0, hw 1, hw 2]
  pointwise [k0_pay1]
  rw [acc_apply, sumExp_apply, field_apply]
  simp only [firstTerm_apply]
  pointwise [k0_pay6]

end Cert.Proof.Block

end
-- ==== Proof.KernelRun.lean ====
/-
  The kernel's run, read: its result at row `n` is the energy of row `n`.
-/
module

public import proofs.«01_k».proof.Proof.Gen.KernelIdeal.Frame
public import proofs.«01_k».proof.Proof.KernelBlock
public import Idealize.ShloMosaic.Lib.Pipeline.ValueKit

@[expose] public section

set_option maxRecDepth 16384

noncomputable section

namespace Cert.Proof.Kernel

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The arguments' arrays: `x`, the linear field, the modes, the selection table's bits, the ancestors' words. -/
abbrev x : FVec Ideal S4096x256x32 .f32 := m ((c.tc : Thread nD τ).loc main_arg0)
@[inherit_doc x] abbrev h0 : FVec Ideal S256x32 .f32 := m ((c.tc : Thread nD τ).loc main_arg1)
@[inherit_doc x] abbrev H : FVec Ideal S16x256x32 .f32 := m ((c.tc : Thread nD τ).loc main_arg2)
@[inherit_doc x] abbrev sel : IVec S8x16 1 := m ((c.tc : Thread nD τ).loc main_arg3)
@[inherit_doc x] abbrev anc : IVec S3 32 := m ((c.tc : Thread nD τ).loc main_arg4)

/-- The region finds `x` with its two inner axes exchanged. -/
theorem V_x : V m c main_call0_v0
    = transpose S4096x32x256 [0, 2, 1] (x m c) transposes_S4096x256x32_S4096x32x256_0_2_1 := by
  show StableHlo.after hostOps0 _ _ = _
  after_results
  rfl

/-- The region finds the modes with their two inner axes exchanged. -/
theorem V_h : V m c main_call0_v1
    = transpose S16x32x256 [0, 2, 1] (H m c) transposes_S16x256x32_S16x32x256_0_2_1 := by
  show StableHlo.after hostOps0 _ _ = _
  after_results
  rfl

/-- The region finds the linear field with its axes exchanged, under one more axis. -/
theorem V_g : V m c main_call0_v3
    = broadcastInDim S1x32x256 ![1, 2] bcast_S32x256_S1x32x256_1_2
        (transpose S32x256 [1, 0] (h0 m c) transposes_S256x32_S32x256_1_0) := by
  show StableHlo.after hostOps0 _ _ = _
  after_results
  rfl

/-- The region finds the selection table as numbers. -/
theorem V_s : V m c main_call0_v4 = uitofp (F := Ideal) (s := S8x16) (w := 1) .f32 (sel m c) := by
  show StableHlo.after hostOps0 _ _ = _
  after_results
  rfl

/-- The program's result is the region's array without its second axis. -/
theorem result_eq : Pipeline.afterTail₀ cfgs (dats m) 0 (V0 m) [hostOps1] c main_v0
    = shapeCast S4096 ((dats m 0 c).arrAt 5 cfg0.N) shapeCasts_S4096x1_S4096 := by
  rw [← Pipeline.withArrays_arr spec0 (by decide) c (V0 m c) (fun w => (dats m 0 c).arrAt w cfg0.N) 5]
  unfold Pipeline.afterTail₀
  show StableHlo.after hostOps1 _ _ = _
  after_results
  rfl

/-- Where the windows' blocks stand at a point. -/
theorem index_eq : ∀ t : Fin cfg0.N,
    win0_0.index t = ![(grid0.coords t 0).val, 0, 0] ∧ win0_1.index t = ![0, 0, 0] ∧ win0_2.index t = ![0, 0, 0]
      ∧ win0_3.index t = ![0, 0] ∧ win0_5.index t = ![(grid0.coords t 0).val, 0] ∧ win0_4.index t = ![0] :=
  (by decide +kernel : ∀ t : Fin grid0.N, _)

/-- The block of `x` at point `t`. -/
theorem x_apply (t : Fin cfg0.N) (r : Fin 512) (q : Fin 32) (l : Fin 256) (n : Fin 4096)
    (hn : n.val = (grid0.coords t 0).val * 512 + r.val) :
    iblk m c 0 t (ix3 r q l) = x m c (ix3 n l q) := by
  obtain ⟨h0, -⟩ := index_eq t
  blk_simp [iblk]
  rw [V_x]
  pointwise
  blk_ext [h0]

/-- The block of the modes is all of them, at every point. -/
theorem h_apply (t : Fin cfg0.N) (j : Fin 16) (q : Fin 32) (l : Fin 256) :
    iblk m c 1 t (ix3 j q l) = H m c (ix3 j l q) := by
  obtain ⟨-, h0, -⟩ := index_eq t
  blk_simp [iblk]
  rw [V_h]
  pointwise
  blk_ext [h0]

/-- The block of the linear field is all of it, at every point. -/
theorem g_apply (t : Fin cfg0.N) (q : Fin 32) (l : Fin 256) :
    iblk m c 2 t (ix3 0 q l) = h0 m c (ix2 l q) := by
  obtain ⟨-, -, h0, -⟩ := index_eq t
  blk_simp [iblk]
  rw [V_g]
  pointwise
  blk_ext [h0]

/-- The block of the selection table: its bits as numbers. -/
theorem s_apply (t : Fin cfg0.N) (i : Fin 8) (j : Fin 16) :
    (show EReal from iblk m c 3 t (ix2 i j)) = (((sel m c (ix2 i j)).toNat : ℝ) : EReal) := by
  obtain ⟨-, -, -, h0, -⟩ := index_eq t
  blk_simp [iblk]
  rw [V_s]
  have e : (win0_3.blk t).view.emb (ix2 i j) = ix2 i j := by blk_ext [h0]
  rw [e]
  rfl

/-- The staged words are the ancestors' words. -/
theorem a_apply (t : Fin cfg0.N) (i : Fin 3) :
    iblk m c 4 t (ix1 i) = anc m c (ix1 i) := by
  obtain ⟨-, -, -, -, -, h0⟩ := index_eq t
  blk_simp [iblk]
  rw [V_main_arg4]
  have e : (win0_4.blk t).view.emb (ix1 i) = ix1 i := by blk_ext [h0]
  rw [e]

/-- The energy of row `n`, where ancestor `i` names row `b i` of the selection table. -/
def rowEnergy (b : Fin 3 → Fin 8) (n : Fin 4096) : EReal :=
  energyRow
    (fun j => ∑ l : Fin 256, ∑ q : Fin 32, x m c (ix3 n l q)
        * H m c (ix3 j l q))
    (fun i j => sel m c (ix2 (b i) j))
    (∑ l : Fin 256, ∑ q : Fin 32, x m c (ix3 n l q)
        * h0 m c (ix2 l q))

/-- What the body stores at point `t`, at row `r` of the block: the energy of the row of `x` that stands there. -/
theorem row_apply (b : Fin 3 → Fin 8) (hb : ∀ i, anc m c (ix1 i) = BitVec.ofNat 32 (b i).val) (t : Fin cfg0.N) (r : Fin 512)
    (n : Fin 4096) (hn : n.val = (grid0.coords t 0).val * 512 + r.val) :
    Block.block (iblk m c 0 t) (iblk m c 1 t) (iblk m c 2 t) (iblk m c 3 t) (fun i => iblk m c 4 t (ix1 i)) (ix2 r 0)
      = rowEnergy m c b n := by
  rw [Block.block_apply (iblk m c 0 t) (iblk m c 1 t) (iblk m c 2 t) (iblk m c 3 t) (fun i => iblk m c 4 t (ix1 i)) b
    (fun i j => sel m c (ix2 i j)) (fun i => (a_apply m c t i).trans (hb i)) (s_apply m c t) r]
  have he : Block.modeRow (iblk m c 0 t) (iblk m c 1 t) r
      = fun j => ∑ l : Fin 256, ∑ q : Fin 32, x m c (ix3 n l q) * H m c (ix3 j l q) := by
    funext j
    unfold Block.modeRow
    rw [Finset.sum_comm]
    exact Finset.sum_congr rfl fun l _ => Finset.sum_congr rfl fun q _ =>
      congrArg₂ (fun u v : EReal => u * v) (x_apply m c t r q l n hn) (h_apply m c t j q l)
  rw [he, rowEnergy]
  congr 1
  rw [Finset.sum_comm]
  exact Finset.sum_congr rfl fun l _ => Finset.sum_congr rfl fun q _ =>
    congrArg₂ (fun u v : EReal => u * v) (x_apply m c t r q l n hn) (g_apply m c t q l)

/-- A word loaded from a block of three is the word that stands there. -/
theorem word_eq (v : Vec Ideal S3 .i32) :
    View.ld v (Rect.unit ![0] ![1] inb_S3_S1_0) (Shape.Idx.first (by decide)) = v (ix1 0)
      ∧ View.ld v (Rect.unit ![1] ![1] inb_S3_S1_1) (Shape.Idx.first (by decide)) = v (ix1 1)
      ∧ View.ld v (Rect.unit ![2] ![1] inb_S3_S1_2) (Shape.Idx.first (by decide)) = v (ix1 2) := by
  refine ⟨congrArg v ?_, congrArg v ?_, congrArg v ?_⟩ <;> decide

/-- THE REGION'S ARRAY after the run: at row `n`, the energy of row `n`. -/
theorem final (b : Fin 3 → Fin 8) (hb : ∀ i, anc m c (ix1 i) = BitVec.ofNat 32 (b i).val) :
    (dats m 0 c).arrAt 5 cfg0.N = fun i : S4096x1.Idx => rowEnergy m c b (i 0) := by
  refine (dats m 0 c).arrAt_eq_of_covers 5 _ (by decide +kernel) fun t hf y => ?_
  blk_simp
  rw [after0_5]
  unfold outsAt0
  frame_out
  obtain ⟨r, rfl⟩ : ∃ r : Fin 512, y = ix2 r 0 := ⟨y 0, by blk_ext⟩
  have hn : (((win0_5.blk t).view.emb (ix2 r 0) : S4096x1.Idx) 0).val = (grid0.coords t 0).val * 512 + r.val := by
    obtain ⟨-, -, -, -, h0, -⟩ := index_eq t
    blk_simp [h0]
  obtain ⟨h0, h1, h2⟩ := word_eq (iblk m c 4 t)
  rw [h0, h1, h2]
  exact row_apply m c b hb t r _ hn

/-- THE KERNEL'S RESULT, as the lines after the region leave it: at row `n`, the energy of row `n`. -/
theorem result_apply (b : Fin 3 → Fin 8) (hb : ∀ i, anc m c (ix1 i) = BitVec.ofNat 32 (b i).val) :
    Pipeline.afterTail₀ cfgs (dats m) 0 (V0 m) [hostOps1] c main_v0 = fun i : S4096.Idx => rowEnergy m c b (i 0) := by
  rw [result_eq, final m c b hb]
  funext i
  pointwise

end Cert.Proof.Kernel

end
-- ==== Proof.lean ====
/-
  The five claims. The kernel, its idealization and the reference run, leave their arguments as they were and every
  semaphore at zero; the idealization is the kernel's own text; and where every ancestor names a row of the selection
  table, the idealization and the reference end with equal results. The parts are under Proof/: a row's mathematics
  (Row.lean), the precondition read (Rows.lean), the reference's result at a row (RefValue.lean), the kernel's block at a
  row (KernelBlock.lean) and its run (KernelRun.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Rows
public import proofs.«01_k».proof.Proof.RefValue
public import proofs.«01_k».proof.Proof.KernelRun
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs, leaves its arguments as they were, and has no semaphore that could end above zero. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4))
        ∧ r.2.sem = fun _ => 0) :=
  (θ_run ReferenceIdeal.defs _ _).mono
    (fun r h => ⟨fun c => (h c).2, sem_eq_zero_of_no_sems (by decide) r.2⟩) (Cert.ReferenceIdeal.Value.run m g)

/-- From memories that agree on the arguments, and under the precondition, the two end with equal results. -/
theorem algebraic [hPre : Cert.Pre_ancestors_name_rows.Facts] :
    Cert.algebraic_KernelIdeal_ReferenceIdeal_pre_ancestors_name_rows (hKernelIdeal := Cert.KernelIdeal.Gen.facts)
      (hReferenceIdeal := Cert.ReferenceIdeal.Gen.facts) := by
  intro m g m' g' hpre hagree
  refine ⟨fun c => Pipeline.afterTail₀ KernelIdeal.cfgs (KernelIdeal.Gen.dats m) 0 (KernelIdeal.Gen.V0 m)
    [KernelIdeal.Gen.hostOps1] c KernelIdeal.main_v0, ?_, ?_⟩
  · refine (θ_run KernelIdeal.defs _ _).mono (fun r h c => ⟨?_, h.2 c⟩)
      (θ_run_and (KernelIdeal.Gen.run_main m g) (KernelIdeal.Gen.unchanged m g))
    exact (h.1 c).2 KernelIdeal.main_v0 (Pipeline.mem_restRefs_of KernelIdeal.main_v0 (by decide) (by decide))
  · refine (θ_run ReferenceIdeal.defs _ _).mono (fun r h c => ⟨(h c).1.trans ?_, (h c).2⟩) (Cert.ReferenceIdeal.Value.run m' g')
    obtain ⟨b, hb⟩ := Rows.exists_rows _ _ _ _ _ (hpre c)
    refine (Reference.result_eq m' c).trans ?_
    obtain ⟨h0, h1, h2, h3, h4⟩ := hagree c
    refine Eq.trans ?_ (Kernel.result_apply m c b hb).symm
    rw [h0, h1, h2, h3, h4]
    funext i
    obtain ⟨n, rfl⟩ : ∃ n : Fin 4096, i = ix1 n := ⟨i 0, (ix1_eta i).symm⟩
    exact Reference.energies_apply _ _ _ _ _ b hb n

/-- The five claims. -/
theorem claim : Cert.Claim :=
  ⟨Cert.Kernel.Gen.facts, Cert.KernelIdeal.Gen.facts, Cert.ReferenceIdeal.Gen.facts, Rows.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    trivial,
    algebraic (hPre := Rows.facts)⟩

end Cert.Proof

end
